-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x12288x1008 : Shape := ⟨3, ![32, 12288, 1008]⟩
abbrev S32x96x1008 : Shape := ⟨3, ![32, 96, 1008]⟩
abbrev S32x12288x832 : Shape := ⟨3, ![32, 12288, 832]⟩
abbrev S32x96x832 : Shape := ⟨3, ![32, 96, 832]⟩
abbrev S1008x832 : Shape := ⟨2, ![1008, 832]⟩
abbrev S32x1008x12288 : Shape := ⟨3, ![32, 1008, 12288]⟩
abbrev S32x832x12288 : Shape := ⟨3, ![32, 832, 12288]⟩
abbrev S832x1008 : Shape := ⟨2, ![832, 1008]⟩
abbrev S1x1008x2048 : Shape := ⟨3, ![1, 1008, 2048]⟩
abbrev S1x16x1008 : Shape := ⟨3, ![1, 16, 1008]⟩
abbrev S1x832x2048 : Shape := ⟨3, ![1, 832, 2048]⟩
abbrev S1x16x832 : Shape := ⟨3, ![1, 16, 832]⟩
abbrev S16x1008 : Shape := ⟨2, ![16, 1008]⟩
abbrev S1008x16 : Shape := ⟨2, ![1008, 16]⟩
abbrev S1x1008x128 : Shape := ⟨3, ![1, 1008, 128]⟩
abbrev S1008x128 : Shape := ⟨2, ![1008, 128]⟩
abbrev S1008x1 : Shape := ⟨2, ![1008, 1]⟩
abbrev S1008x2048 : Shape := ⟨2, ![1008, 2048]⟩
abbrev S16x832 : Shape := ⟨2, ![16, 832]⟩
abbrev S832x16 : Shape := ⟨2, ![832, 16]⟩
abbrev S1x832x128 : Shape := ⟨3, ![1, 832, 128]⟩
abbrev S832x128 : Shape := ⟨2, ![832, 128]⟩
abbrev S832x1 : Shape := ⟨2, ![832, 1]⟩
abbrev S832x2048 : Shape := ⟨2, ![832, 2048]⟩

abbrev nBuf : Space → Nat
  | .hbm => 10
  | .vmem => 10
  | .smem => 0
  | _ => 0

abbrev bufTy : (tb : Table) → Fin (tcTables nBuf tb) → BufTy
  | .hbm, ⟨0, _⟩ => ⟨S32x12288x1008, .fp8e4m3⟩
  | .hbm, ⟨1, _⟩ => ⟨S32x96x1008, .f32⟩
  | .hbm, ⟨2, _⟩ => ⟨S32x12288x832, .fp8e5m2⟩
  | .hbm, ⟨3, _⟩ => ⟨S32x96x832, .f32⟩
  | .hbm, ⟨4, _⟩ => ⟨S1008x832, .f32⟩
  | .hbm, ⟨5, _⟩ => ⟨S32x1008x12288, .fp8e4m3⟩
  | .hbm, ⟨6, _⟩ => ⟨S32x832x12288, .fp8e5m2⟩
  | .hbm, ⟨7, _⟩ => ⟨S832x1008, .f32⟩
  | .hbm, ⟨8, _⟩ => ⟨S832x1008, .f32⟩
  | .hbm, ⟨9, _⟩ => ⟨S1008x832, .f32⟩
  | .local _ .vmem, ⟨0, _⟩ => ⟨S1x1008x2048, .fp8e4m3⟩
  | .local _ .vmem, ⟨1, _⟩ => ⟨S1x1008x2048, .fp8e4m3⟩
  | .local _ .vmem, ⟨2, _⟩ => ⟨S1x16x1008, .f32⟩
  | .local _ .vmem, ⟨3, _⟩ => ⟨S1x16x1008, .f32⟩
  | .local _ .vmem, ⟨4, _⟩ => ⟨S1x832x2048, .fp8e5m2⟩
  | .local _ .vmem, ⟨5, _⟩ => ⟨S1x832x2048, .fp8e5m2⟩
  | .local _ .vmem, ⟨6, _⟩ => ⟨S1x16x832, .f32⟩
  | .local _ .vmem, ⟨7, _⟩ => ⟨S1x16x832, .f32⟩
  | .local _ .vmem, ⟨8, _⟩ => ⟨S832x1008, .f32⟩
  | .local _ .vmem, ⟨9, _⟩ => ⟨S832x1008, .f32⟩
  | _, _ => ⟨S32x12288x1008, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![32, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1008x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1008 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x832x2048 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x832 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S832x1008 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S832x1008 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S32x12288x1008 : Shape := ⟨3, ![32, 12288, 1008]⟩
abbrev S32x96x1008 : Shape := ⟨3, ![32, 96, 1008]⟩
abbrev S32x12288x832 : Shape := ⟨3, ![32, 12288, 832]⟩
abbrev S32x96x832 : Shape := ⟨3, ![32, 96, 832]⟩
abbrev S1008x832 : Shape := ⟨2, ![1008, 832]⟩
abbrev S32x96x128x1008 : Shape := ⟨4, ![32, 96, 128, 1008]⟩
abbrev S32x96x1x1008 : Shape := ⟨4, ![32, 96, 1, 1008]⟩
abbrev S32x96x128x832 : Shape := ⟨4, ![32, 96, 128, 832]⟩
abbrev S32x96x1x832 : Shape := ⟨4, ![32, 96, 1, 832]⟩

abbrev nBuf : Space → Nat
  | .hbm => 6
  | .vmem => 6
  | .smem => 0
  | _ => 0

abbrev bufTy : (tb : Table) → Fin (tcTables nBuf tb) → BufTy
  | .hbm, ⟨0, _⟩ => ⟨S32x12288x1008, .fp8e4m3⟩
  | .hbm, ⟨1, _⟩ => ⟨S32x96x1008, .f32⟩
  | .hbm, ⟨2, _⟩ => ⟨S32x12288x832, .fp8e5m2⟩
  | .hbm, ⟨3, _⟩ => ⟨S32x96x832, .f32⟩
  | .hbm, ⟨4, _⟩ => ⟨S1008x832, .f32⟩
  | .hbm, ⟨5, _⟩ => ⟨S1008x832, .f32⟩
  | .local _ .vmem, ⟨0, _⟩ => ⟨S32x12288x1008, .fp8e4m3⟩
  | .local _ .vmem, ⟨1, _⟩ => ⟨S32x96x1008, .f32⟩
  | .local _ .vmem, ⟨2, _⟩ => ⟨S32x12288x832, .fp8e5m2⟩
  | .local _ .vmem, ⟨3, _⟩ => ⟨S32x96x832, .f32⟩
  | .local _ .vmem, ⟨4, _⟩ => ⟨S1008x832, .f32⟩
  | .local _ .vmem, ⟨5, _⟩ => ⟨S1008x832, .f32⟩
  | _, _ => ⟨S32x12288x1008, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32x12288x1008 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x96x1008 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x12288x832 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x96x832 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1008x832 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1008x832 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelTile.lean ====
/-
  What the dequantisation of one block computes. The body dequantises a block `[1, C, 2048]` of codes in sixteen tiles of
  128 tokens: tile `n` is the codes of tokens `128 n … 128 n + 127`, cast to bfloat16, times column `n` of the transposed
  scales; the sixteen tiles are then concatenated. Here: one tile as a function of its number, the concatenation of the
  sixteen, and what it holds at an index, for either operand (`x`, 1008 channels; `dy`, 832 channels).
-/
module

public import proofs.«01_k».proof.Proof.Gen.KernelIdeal.Skeleton
public import Idealize.ShloMosaic.Lib.Pointwise
public import Idealize.ShloMosaic.Lib.Pipeline.Value

@[expose] public section

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

/-- Tile `n` of the `x` codes lies in the block. -/
theorem inb_xTile (n : Fin 16) (a : Fin 3) :
    (![0, 0, 128 * n.val] : Fin 3 → Nat) a + S1x1008x128.size a ≤ S1x1008x2048.size a := by
  match a with
  | ⟨0, _⟩ => show 0 + 1 ≤ 1; omega
  | ⟨1, _⟩ => show 0 + 1008 ≤ 1008; omega
  | ⟨2, _⟩ => show 128 * n.val + 128 ≤ 2048; omega

/-- Column `n` of the transposed `x` scales lies in them. -/
theorem slices_xScale (n : Fin 16) : S1008x16.Slices ![0, n.val] S1008x1 :=
  ⟨rfl, fun a => by
    match a with
    | ⟨0, _⟩ => show 0 + 1008 ≤ 1008; omega
    | ⟨1, _⟩ => show n.val + 1 ≤ 16; omega⟩

/-- Tile `n` of the `dy` codes lies in the block. -/
theorem inb_dyTile (n : Fin 16) (a : Fin 3) :
    (![0, 0, 128 * n.val] : Fin 3 → Nat) a + S1x832x128.size a ≤ S1x832x2048.size a := by
  match a with
  | ⟨0, _⟩ => show 0 + 1 ≤ 1; omega
  | ⟨1, _⟩ => show 0 + 832 ≤ 832; omega
  | ⟨2, _⟩ => show 128 * n.val + 128 ≤ 2048; omega

/-- Column `n` of the transposed `dy` scales lies in them. -/
theorem slices_dyScale (n : Fin 16) : S832x16.Slices ![0, n.val] S832x1 :=
  ⟨rfl, fun a => by
    match a with
    | ⟨0, _⟩ => show 0 + 832 ≤ 832; omega
    | ⟨1, _⟩ => show n.val + 1 ≤ 16; omega⟩

/-- Tile `n` of the dequantised `x` block: the codes of its 128 tokens times column `n` of the scales. -/
def xTile (x0 : Vec F S1x1008x2048 .fp8e4m3) (x1 : Vec F S1x16x1008 .f32) (n : Fin 16) : FVec F S1008x128 .bf16 :=
  mulf
    (extf .bf16 (shapeCast S1008x128
      (show Vec F S1x1008x128 .fp8e4m3 from
        View.ld x0 (Rect.unit (s := S1x1008x2048) ![0, 0, 128 * n.val] S1x1008x128.size (inb_xTile n)))
      shapeCasts_S1x1008x128_S1008x128 : FVec F S1008x128 .fp8e4m3) bitsLt_fp8e4m3_bf16)
    (broadcastTo S1008x128 (extractStridedSlice S1008x1 ![0, n.val] (k0_pay5 x1) (slices_xScale n))
      broadcasts_S1008x1_S1008x128)

/-- Tile `n` of the dequantised `dy` block: the codes of its 128 tokens times column `n` of the scales. -/
def dyTile (x2 : Vec F S1x832x2048 .fp8e5m2) (x3 : Vec F S1x16x832 .f32) (n : Fin 16) : FVec F S832x128 .bf16 :=
  mulf
    (extf .bf16 (shapeCast S832x128
      (show Vec F S1x832x128 .fp8e5m2 from
        View.ld x2 (Rect.unit (s := S1x832x2048) ![0, 0, 128 * n.val] S1x832x128.size (inb_dyTile n)))
      shapeCasts_S1x832x128_S832x128 : FVec F S832x128 .fp8e5m2) bitsLt_fp8e5m2_bf16)
    (broadcastTo S832x128 (extractStridedSlice S832x1 ![0, n.val] (k0_pay19 x3) (slices_dyScale n))
      broadcasts_S832x1_S832x128)

/-- The dequantised `x` block: its sixteen tiles side by side. -/
def xBlock (x0 : Vec F S1x1008x2048 .fp8e4m3) (x1 : Vec F S1x16x1008 .f32) : FVec F S1008x2048 .bf16 :=
  concatenate S1008x2048 1 (List.ofFn fun n : Fin 16 => (⟨S1008x128, xTile x0 x1 n⟩ : (s : Shape) × (s.Idx → F .bf16)))
    concatenates_S1008x128_S1008x128_S1008x128_S1008x128_S1008x128_S1008x128_S1008x128_S1008x128_S1008x128_S1008x128_S1008x128_S1008x128_S1008x128_S1008x128_S1008x128_S1008x128_S1008x2048_d1

/-- The dequantised `dy` block: its sixteen tiles side by side. -/
def dyBlock (x2 : Vec F S1x832x2048 .fp8e5m2) (x3 : Vec F S1x16x832 .f32) : FVec F S832x2048 .bf16 :=
  concatenate S832x2048 1 (List.ofFn fun n : Fin 16 => (⟨S832x128, dyTile x2 x3 n⟩ : (s : Shape) × (s.Idx → F .bf16)))
    concatenates_S832x128_S832x128_S832x128_S832x128_S832x128_S832x128_S832x128_S832x128_S832x128_S832x128_S832x128_S832x128_S832x128_S832x128_S832x128_S832x128_S832x2048_d1

/-- Tile `n` of `x` at channel `r`, token `k`: that code times that channel's scale `n`. -/
theorem xTile_apply (x0 : Vec Ideal S1x1008x2048 .fp8e4m3) (x1 : Vec Ideal S1x16x1008 .f32) (n : Fin 16) (r : Fin 1008)
    (k : Fin 128) : xTile x0 x1 n (ix2 r k)
      = (show EReal from x0 (ix3 0 r ⟨128 * n.val + k.val, by omega⟩)) * (show EReal from x1 (ix3 0 n r)) := by
  pointwise [xTile, k0_pay5]

/-- Tile `n` of `dy` at channel `r`, token `k`: that code times that channel's scale `n`. -/
theorem dyTile_apply (x2 : Vec Ideal S1x832x2048 .fp8e5m2) (x3 : Vec Ideal S1x16x832 .f32) (n : Fin 16) (r : Fin 832)
    (k : Fin 128) : dyTile x2 x3 n (ix2 r k)
      = (show EReal from x2 (ix3 0 r ⟨128 * n.val + k.val, by omega⟩)) * (show EReal from x3 (ix3 0 n r)) := by
  pointwise [dyTile, k0_pay19]

/-- The dequantised `x` block at channel `r`, token `k`: the code times the scale of the token's tile `k / 128`. -/
theorem xBlock_apply (x0 : Vec Ideal S1x1008x2048 .fp8e4m3) (x1 : Vec Ideal S1x16x1008 .f32) (r : Fin 1008) (k : Fin 2048) :
    xBlock x0 x1 (ix2 r k)
      = (show EReal from x0 (ix3 0 r k)) * (show EReal from x1 (ix3 0 ⟨k.val / 128, by omega⟩ r)) := by
  have h := concatenate_ofFn_apply (t := S1008x2048) (s₁ := S1008x128) 1 (xTile x0 x1)
    concatenates_S1008x128_S1008x128_S1008x128_S1008x128_S1008x128_S1008x128_S1008x128_S1008x128_S1008x128_S1008x128_S1008x128_S1008x128_S1008x128_S1008x128_S1008x128_S1008x128_S1008x2048_d1
    rfl 128 rfl (ix2 r k) ⟨k.val / 128, by omega⟩ rfl (ix2 r ⟨k.val % 128, by omega⟩) rfl
    (fun b hb => by
      match b with
      | ⟨0, _⟩ => rfl
      | ⟨1, _⟩ => exact absurd rfl hb)
  have e : (⟨128 * (k.val / 128) + k.val % 128, by omega⟩ : Fin 2048) = k := Fin.ext (Nat.div_add_mod ..)
  exact (h.trans (xTile_apply ..)).trans (by rw [e])

/-- The dequantised `dy` block at channel `r`, token `k`: the code times the scale of the token's tile `k / 128`. -/
theorem dyBlock_apply (x2 : Vec Ideal S1x832x2048 .fp8e5m2) (x3 : Vec Ideal S1x16x832 .f32) (r : Fin 832) (k : Fin 2048) :
    dyBlock x2 x3 (ix2 r k)
      = (show EReal from x2 (ix3 0 r k)) * (show EReal from x3 (ix3 0 ⟨k.val / 128, by omega⟩ r)) := by
  have h := concatenate_ofFn_apply (t := S832x2048) (s₁ := S832x128) 1 (dyTile x2 x3)
    concatenates_S832x128_S832x128_S832x128_S832x128_S832x128_S832x128_S832x128_S832x128_S832x128_S832x128_S832x128_S832x128_S832x128_S832x128_S832x128_S832x128_S832x2048_d1
    rfl 128 rfl (ix2 r k) ⟨k.val / 128, by omega⟩ rfl (ix2 r ⟨k.val % 128, by omega⟩) rfl
    (fun b hb => by
      match b with
      | ⟨0, _⟩ => rfl
      | ⟨1, _⟩ => exact absurd rfl hb)
  have e : (⟨128 * (k.val / 128) + k.val % 128, by omega⟩ : Fin 2048) = k := Fin.ext (Nat.div_add_mod ..)
  exact (h.trans (dyTile_apply ..)).trans (by rw [e])

end Cert.KernelIdeal.Hand

end
-- ==== Proof.KernelBody.lean ====
/-
  What the kernel's body leaves in the output's staging buffer at one grid point: after the first point the initial
  gradient plus the product of the two dequantised blocks, after every other point what the buffer held plus that product.
-/
module

public import proofs.«01_k».proof.Proof.KernelTile
public import proofs.«01_k».proof.Proof.Gen.KernelIdeal.Frame
public import Idealize.ShloMosaic.Lib.Tactic

@[expose] public section

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One point's update of the accumulator: what it holds plus the product of the dequantised `dy` and `x` blocks, summed
    over the block's tokens. -/
def step (x0 : Vec F S1x1008x2048 .fp8e4m3) (x1 : Vec F S1x16x1008 .f32) (x2 : Vec F S1x832x2048 .fp8e5m2)
    (x3 : Vec F S1x16x832 .f32) (acc : Vec F S832x1008 .f32) : Vec F S832x1008 .f32 :=
  addf acc (matmul dot_S832x2048_S1008x2048_S832x1008_1_1_0_0_n_n none (dyBlock x2 x3) (xBlock x0 x1)
    (constant S832x1008 .f32 0x00000000#32))

/-- What the body stores, over the two dequantised blocks and the buffer's contents it read. -/
theorem store_eq (a : FVec F S1008x2048 .bf16) (b : FVec F S832x2048 .bf16) (acc : Vec F S832x1008 .f32) :
    k0_pay3 a b acc = addf acc (matmul dot_S832x2048_S1008x2048_S832x1008_1_1_0_0_n_n none b a
      (constant S832x1008 .f32 0x00000000#32)) := by
  unfold k0_pay3
  rw [shapeCast_self]

/-- After a point other than the first the buffer holds the update of what it held. -/
theorem out_B (c : Dev nD) (i : grid0.Coords) (a2 : Memref sig .tc .vmem S1x1008x2048 .fp8e4m3) (h2 : a2.IsWhole)
    (a3 : Memref sig .tc .vmem S1x16x1008 .f32) (h3 : a3.IsWhole) (a4 : Memref sig .tc .vmem S1x832x2048 .fp8e5m2)
    (h4 : a4.IsWhole) (a5 : Memref sig .tc .vmem S1x16x832 .f32) (h5 : a5.IsWhole)
    (a6 : Memref sig .tc .vmem S832x1008 .f32) (h6 : a6.IsWhole) (a7 : Memref sig .tc .vmem S832x1008 .f32) (h7 : a7.IsWhole)
    (hc : ¬cond0_0 i) (x0 : Vec F S1x1008x2048 .fp8e4m3) (x1 : Vec F S1x16x1008 .f32) (x2 : Vec F S1x832x2048 .fp8e5m2)
    (x3 : Vec F S1x16x832 .f32) (x4 : Vec F S832x1008 .f32) (xo : Vec F S832x1008 .f32) :
    out0_B_5 c i a2 h2 a3 h3 a4 h4 a5 h5 a6 h6 a7 h7 hc x0 x1 x2 x3 x4 xo = step x0 x1 x2 x3 xo := by
  unfold out0_B_5
  rw [View.read_writes_eq_canon _ _ _ (cover0_B_5 c i a2 h2 a3 h3 a4 h4 a5 h5 a6 h6 a7 h7 hc x0 x1 x2 x3 x4 xo)]
  unfold kernelRun0_B
  dsimp only
  sl_unfold_words
  rw [View.canon_unit_zero hz2]
  simp only [View.readAt_eq_ld]
  rw [h2.read_unread, h3.read_unread, h4.read_unread, h5.read_unread, h7.read_unread]
  rw [View.ld_unit_zero (S := S1x16x1008) hz3, View.ld_unit_zero (S := S1x16x832) hz3,
    View.ld_unit_zero (S := S832x1008) hz2, store_eq]
  rfl

/-- After the first point the buffer holds the update of the initial gradient's block. -/
theorem out_A (c : Dev nD) (i : grid0.Coords) (a2 : Memref sig .tc .vmem S1x1008x2048 .fp8e4m3) (h2 : a2.IsWhole)
    (a3 : Memref sig .tc .vmem S1x16x1008 .f32) (h3 : a3.IsWhole) (a4 : Memref sig .tc .vmem S1x832x2048 .fp8e5m2)
    (h4 : a4.IsWhole) (a5 : Memref sig .tc .vmem S1x16x832 .f32) (h5 : a5.IsWhole)
    (a6 : Memref sig .tc .vmem S832x1008 .f32) (h6 : a6.IsWhole) (a7 : Memref sig .tc .vmem S832x1008 .f32) (h7 : a7.IsWhole)
    (hc : cond0_0 i) (x0 : Vec F S1x1008x2048 .fp8e4m3) (x1 : Vec F S1x16x1008 .f32) (x2 : Vec F S1x832x2048 .fp8e5m2)
    (x3 : Vec F S1x16x832 .f32) (x4 : Vec F S832x1008 .f32) :
    out0_A_5 c i a2 h2 a3 h3 a4 h4 a5 h5 a6 h6 a7 h7 hc x0 x1 x2 x3 x4 = step x0 x1 x2 x3 x4 := by
  unfold out0_A_5
  rw [View.read_writes_eq_canon _ _ _ (cover0_A_5 c i a2 h2 a3 h3 a4 h4 a5 h5 a6 h6 a7 h7 hc x0 x1 x2 x3 x4)]
  unfold kernelRun0_A
  dsimp only
  sl_unfold_words
  rw [View.canon_cons_unit_zero (S := S832x1008) hz2, View.readCov_unit_zero (S := S832x1008) _ hz2]
  unfold k0_pay4
  simp only [View.readAt_eq_ld]
  rw [h2.read_unread, h3.read_unread, h4.read_unread, h5.read_unread, h6.read_unread]
  rw [View.ld_unit_zero (S := S1x16x1008) hz3, View.ld_unit_zero (S := S1x16x832) hz3,
    View.ld_unit_zero (S := S832x1008) hz2, shapeCast_self, store_eq]
  rfl

end Cert.KernelIdeal.Hand

end
-- ==== Proof.KernelBlocks.lean ====
/-
  What the kernel's windows read at one grid point, in the arguments: point `t` is on sequence `t / 6` and on positions
  `2048 (t mod 6) …` of it. The codes and the initial gradient reach the kernel transposed by the host.
-/
module

public import proofs.«01_k».proof.Proof.Gen.KernelIdeal.Frame
public import Idealize.ShloMosaic.Lib.Pointwise
public import Idealize.ShloMosaic.Lib.StableHlo.Run

@[expose] public section

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The kernel finds the `x` codes with channels before positions. -/
theorem V_x (c : Dev nD) : V m c main_v0
    = transpose S32x1008x12288 [0, 2, 1] (m ((c : Thread nD τ).loc main_arg0)) transposes_S32x12288x1008_S32x1008x12288_0_2_1 := by
  show StableHlo.after (List.flatten [hostOps0]) (fun b => m (c, b)) (Proc.devRef .tc main_v0) = _
  simp only [List.flatten_cons, List.flatten_nil, List.append_nil]
  after_results

/-- The kernel finds the `dy` codes with channels before positions. -/
theorem V_dy (c : Dev nD) : V m c main_v1
    = transpose S32x832x12288 [0, 2, 1] (m ((c : Thread nD τ).loc main_arg2)) transposes_S32x12288x832_S32x832x12288_0_2_1 := by
  show StableHlo.after (List.flatten [hostOps0]) (fun b => m (c, b)) (Proc.devRef .tc main_v1) = _
  simp only [List.flatten_cons, List.flatten_nil, List.append_nil]
  after_results

/-- The kernel finds the initial gradient transposed. -/
theorem V_grad (c : Dev nD) : V m c main_v2
    = transpose S832x1008 [1, 0] (m ((c : Thread nD τ).loc main_arg4)) transposes_S1008x832_S832x1008_1_0 := by
  show StableHlo.after (List.flatten [hostOps0]) (fun b => m (c, b)) (Proc.devRef .tc main_v2) = _
  simp only [List.flatten_cons, List.flatten_nil, List.append_nil]
  after_results

/-- The index maps over the grid, in the point's number. -/
theorem index_x : ∀ t : Fin cfg0.N, win0_0.index t (0 : Fin 3) = t.val / 6 ∧ win0_0.index t (1 : Fin 3) = 0
    ∧ win0_0.index t (2 : Fin 3) = t.val % 6 :=
  (by decide +kernel : ∀ t : Fin grid0.N, win0_0.index t (0 : Fin 3) = t.val / 6 ∧ win0_0.index t (1 : Fin 3) = 0
    ∧ win0_0.index t (2 : Fin 3) = t.val % 6)
theorem index_xs : ∀ t : Fin cfg0.N, win0_1.index t (0 : Fin 3) = t.val / 6 ∧ win0_1.index t (1 : Fin 3) = t.val % 6
    ∧ win0_1.index t (2 : Fin 3) = 0 :=
  (by decide +kernel : ∀ t : Fin grid0.N, win0_1.index t (0 : Fin 3) = t.val / 6 ∧ win0_1.index t (1 : Fin 3) = t.val % 6
    ∧ win0_1.index t (2 : Fin 3) = 0)
theorem index_dy : ∀ t : Fin cfg0.N, win0_2.index t (0 : Fin 3) = t.val / 6 ∧ win0_2.index t (1 : Fin 3) = 0
    ∧ win0_2.index t (2 : Fin 3) = t.val % 6 :=
  (by decide +kernel : ∀ t : Fin grid0.N, win0_2.index t (0 : Fin 3) = t.val / 6 ∧ win0_2.index t (1 : Fin 3) = 0
    ∧ win0_2.index t (2 : Fin 3) = t.val % 6)
theorem index_dys : ∀ t : Fin cfg0.N, win0_3.index t (0 : Fin 3) = t.val / 6 ∧ win0_3.index t (1 : Fin 3) = t.val % 6
    ∧ win0_3.index t (2 : Fin 3) = 0 :=
  (by decide +kernel : ∀ t : Fin grid0.N, win0_3.index t (0 : Fin 3) = t.val / 6 ∧ win0_3.index t (1 : Fin 3) = t.val % 6
    ∧ win0_3.index t (2 : Fin 3) = 0)
theorem index_grad : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The number of points. -/
theorem point_lt (t : Fin cfg0.N) : t.val < 192 := lt_of_lt_of_eq t.isLt (show cfg0.N = 192 from N_0)

/-- The block of `x` codes at a point: channel `r`, position `k` of the block. -/
theorem iblk_x (c : Dev nD) (t : Fin cfg0.N) (r : Fin 1008) (k : Fin 2048) :
    (iblk m c 0 t : Vec F S1x1008x2048 .fp8e4m3) (ix3 0 r k)
      = (m ((c : Thread nD τ).loc main_arg0) : Vec F S32x12288x1008 .fp8e4m3)
          (ix3 ⟨t.val / 6, by have := point_lt t; omega⟩ ⟨2048 * (t.val % 6) + k.val, by omega⟩ r) := by
  have hi := index_x t
  have e : (iblk m c 0 t : Vec F S1x1008x2048 .fp8e4m3) (ix3 0 r k)
      = (V m c main_v0 : Vec F S32x1008x12288 .fp8e4m3)
          (ix3 ⟨t.val / 6, by have := point_lt t; omega⟩ r ⟨2048 * (t.val % 6) + k.val, by omega⟩) := by
    unfold iblk
    rw [View.read_apply]
    refine congrArg (V m c main_v0 : Vec F S32x1008x12288 .fp8e4m3) (funext fun a => Fin.ext ?_)
    match a with
    | ⟨0, _⟩ => show win0_0.index t (0 : Fin 3) * 1 + 1 * 0 = t.val / 6; rw [hi.1]; omega
    | ⟨1, _⟩ => show win0_0.index t (1 : Fin 3) * 1008 + 1 * r.val = r.val; rw [hi.2.1]; omega
    | ⟨2, _⟩ => show win0_0.index t (2 : Fin 3) * 2048 + 1 * k.val = 2048 * (t.val % 6) + k.val; rw [hi.2.2]; omega
  rw [e, V_x]
  pointwise

/-- The block of `x` scales at a point: group `n` of the block, channel `r`. -/
theorem iblk_xs (c : Dev nD) (t : Fin cfg0.N) (n : Fin 16) (r : Fin 1008) :
    (iblk m c 1 t : Vec F S1x16x1008 .f32) (ix3 0 n r)
      = (m ((c : Thread nD τ).loc main_arg1) : Vec F S32x96x1008 .f32)
          (ix3 ⟨t.val / 6, by have := point_lt t; omega⟩ ⟨16 * (t.val % 6) + n.val, by omega⟩ r) := by
  have hi := index_xs t
  rw [← V_main_arg1 m c]
  unfold iblk
  rw [View.read_apply]
  refine congrArg (V m c main_arg1 : Vec F S32x96x1008 .f32) (funext fun a => Fin.ext ?_)
  match a with
  | ⟨0, _⟩ => show win0_1.index t (0 : Fin 3) * 1 + 1 * 0 = t.val / 6; rw [hi.1]; omega
  | ⟨1, _⟩ => show win0_1.index t (1 : Fin 3) * 16 + 1 * n.val = 16 * (t.val % 6) + n.val; rw [hi.2.1]; omega
  | ⟨2, _⟩ => show win0_1.index t (2 : Fin 3) * 1008 + 1 * r.val = r.val; rw [hi.2.2]; omega

/-- The block of `dy` codes at a point: channel `r`, position `k` of the block. -/
theorem iblk_dy (c : Dev nD) (t : Fin cfg0.N) (r : Fin 832) (k : Fin 2048) :
    (iblk m c 2 t : Vec F S1x832x2048 .fp8e5m2) (ix3 0 r k)
      = (m ((c : Thread nD τ).loc main_arg2) : Vec F S32x12288x832 .fp8e5m2)
          (ix3 ⟨t.val / 6, by have := point_lt t; omega⟩ ⟨2048 * (t.val % 6) + k.val, by omega⟩ r) := by
  have hi := index_dy t
  have e : (iblk m c 2 t : Vec F S1x832x2048 .fp8e5m2) (ix3 0 r k)
      = (V m c main_v1 : Vec F S32x832x12288 .fp8e5m2)
          (ix3 ⟨t.val / 6, by have := point_lt t; omega⟩ r ⟨2048 * (t.val % 6) + k.val, by omega⟩) := by
    unfold iblk
    rw [View.read_apply]
    refine congrArg (V m c main_v1 : Vec F S32x832x12288 .fp8e5m2) (funext fun a => Fin.ext ?_)
    match a with
    | ⟨0, _⟩ => show win0_2.index t (0 : Fin 3) * 1 + 1 * 0 = t.val / 6; rw [hi.1]; omega
    | ⟨1, _⟩ => show win0_2.index t (1 : Fin 3) * 832 + 1 * r.val = r.val; rw [hi.2.1]; omega
    | ⟨2, _⟩ => show win0_2.index t (2 : Fin 3) * 2048 + 1 * k.val = 2048 * (t.val % 6) + k.val; rw [hi.2.2]; omega
  rw [e, V_dy]
  pointwise

/-- The block of `dy` scales at a point: group `n` of the block, channel `r`. -/
theorem iblk_dys (c : Dev nD) (t : Fin cfg0.N) (n : Fin 16) (r : Fin 832) :
    (iblk m c 3 t : Vec F S1x16x832 .f32) (ix3 0 n r)
      = (m ((c : Thread nD τ).loc main_arg3) : Vec F S32x96x832 .f32)
          (ix3 ⟨t.val / 6, by have := point_lt t; omega⟩ ⟨16 * (t.val % 6) + n.val, by omega⟩ r) := by
  have hi := index_dys t
  rw [← V_main_arg3 m c]
  unfold iblk
  rw [View.read_apply]
  refine congrArg (V m c main_arg3 : Vec F S32x96x832 .f32) (funext fun a => Fin.ext ?_)
  match a with
  | ⟨0, _⟩ => show win0_3.index t (0 : Fin 3) * 1 + 1 * 0 = t.val / 6; rw [hi.1]; omega
  | ⟨1, _⟩ => show win0_3.index t (1 : Fin 3) * 16 + 1 * n.val = 16 * (t.val % 6) + n.val; rw [hi.2.1]; omega
  | ⟨2, _⟩ => show win0_3.index t (2 : Fin 3) * 832 + 1 * r.val = r.val; rw [hi.2.2]; omega

/-- The initial gradient's block is the whole of it, transposed. -/
theorem iblk_grad (c : Dev nD) (t : Fin cfg0.N) (o : Fin 832) (i : Fin 1008) :
    (iblk m c 4 t : Vec F S832x1008 .f32) (ix2 o i)
      = (m ((c : Thread nD τ).loc main_arg4) : Vec F S1008x832 .f32) (ix2 i o) := by
  have hi := index_grad t
  have e : (iblk m c 4 t : Vec F S832x1008 .f32) (ix2 o i) = (V m c main_v2 : Vec F S832x1008 .f32) (ix2 o i) := by
    unfold iblk
    rw [View.read_apply]
    refine congrArg (V m c main_v2 : Vec F S832x1008 .f32) (funext fun a => Fin.ext ?_)
    match a with
    | ⟨0, _⟩ => show win0_4.index t (0 : Fin 2) * 832 + 1 * o.val = o.val; rw [hi.1]; omega
    | ⟨1, _⟩ => show win0_4.index t (1 : Fin 2) * 1008 + 1 * i.val = i.val; rw [hi.2]; omega
  rw [e, V_grad]
  pointwise

end Cert.KernelIdeal.Hand

end
-- ==== Proof.Tokens.lean ====
/-
  The weight gradient as a sum over tokens, and the two orders in which the programs take that sum. The tokens are the pairs
  of one of 32 sequences and one of its 12288 positions. The kernel visits 192 blocks of 2048 positions, six per sequence;
  the reference sums over the sequences, the 96 groups of positions that share a scale, and the 128 positions of a group.
-/
module

public import Idealize.ShloMosaic.Lib.Pointwise

@[expose] public section

noncomputable section

namespace Cert.Tokens

open Idealize.ShloMosaic

/-- What the token at position `s` of sequence `b` adds to entry `(i, o)` of the gradient: the dequantised `dy` of channel
    `o` times the dequantised `x` of channel `i`, each a code times the scale of the position's group of 128. -/
def term (a0 : (⟨3, ![32, 12288, 1008]⟩ : Shape).Idx → EReal) (a1 : (⟨3, ![32, 96, 1008]⟩ : Shape).Idx → EReal)
    (a2 : (⟨3, ![32, 12288, 832]⟩ : Shape).Idx → EReal) (a3 : (⟨3, ![32, 96, 832]⟩ : Shape).Idx → EReal)
    (i : Fin 1008) (o : Fin 832) (b : Fin 32) (s : Fin 12288) : EReal :=
  (a2 (ix3 b s o) * a3 (ix3 b ⟨s.val / 128, by omega⟩ o)) * (a0 (ix3 b s i) * a1 (ix3 b ⟨s.val / 128, by omega⟩ i))

/-- Entry `(i, o)` of the accumulated gradient: the initial gradient plus every token's addend. -/
def grad (a0 : (⟨3, ![32, 12288, 1008]⟩ : Shape).Idx → EReal) (a1 : (⟨3, ![32, 96, 1008]⟩ : Shape).Idx → EReal)
    (a2 : (⟨3, ![32, 12288, 832]⟩ : Shape).Idx → EReal) (a3 : (⟨3, ![32, 96, 832]⟩ : Shape).Idx → EReal)
    (a4 : (⟨2, ![1008, 832]⟩ : Shape).Idx → EReal) (i : Fin 1008) (o : Fin 832) : EReal :=
  a4 (ix2 i o) + ∑ b : Fin 32, ∑ s : Fin 12288, term a0 a1 a2 a3 i o b s

variable (f : Fin 32 → Fin 12288 → EReal)

/-- Block by block — block `t` is positions `2048 (t mod 6) …` of sequence `t / 6` — the tokens are summed once each. -/
theorem sum_blocks : ∑ t : Fin 192, ∑ k : Fin 2048, f ⟨t.val / 6, by omega⟩ ⟨2048 * (t.val % 6) + k.val, by omega⟩
    = ∑ b : Fin 32, ∑ s : Fin 12288, f b s := by
  rw [Fin.sum_univ_tiles 32 6 rfl]
  refine Finset.sum_congr rfl fun b _ => ?_
  rw [Fin.sum_univ_tiles 6 2048 rfl (f b)]
  refine Finset.sum_congr rfl fun j _ => Finset.sum_congr rfl fun k _ => ?_
  exact congrArg₂ f (Fin.ext (show (b.val * 6 + j.val) / 6 = b.val by omega))
    (Fin.ext (show 2048 * ((b.val * 6 + j.val) % 6) + k.val = j.val * 2048 + k.val by omega))

/-- Group by group — group `n` is positions `128 n …` — the tokens are summed once each. -/
theorem sum_groups : ∑ b : Fin 32, ∑ n : Fin 96, ∑ t : Fin 128, f b ⟨n.val * 128 + t.val, by omega⟩
    = ∑ b : Fin 32, ∑ s : Fin 12288, f b s :=
  Finset.sum_congr rfl fun b _ => (Fin.sum_univ_tiles 96 128 rfl (f b)).symm

end Cert.Tokens

end
-- ==== Proof.KernelFold.lean ====
/-
  What the output's staging buffer holds after each point: the initial gradient plus the addends of the points so far. After
  the last point that is the gradient as a sum over tokens.
-/
module

public import proofs.«01_k».proof.Proof.KernelBody
public import proofs.«01_k».proof.Proof.KernelBlocks
public import proofs.«01_k».proof.Proof.Tokens

@[expose] public section

set_option maxRecDepth 16384

noncomputable section

namespace Cert.KernelIdeal.Hand

open Idealize.ShloMosaic Idealize.ShloMosaic.TcCoe Idealize.SL.Sem
open Cert.KernelIdeal Cert.KernelIdeal.Gen

/-- One point's update at an entry: what was held plus, over the block's positions, the dequantised `dy` of channel `o`
    times the dequantised `x` of channel `i`. -/
theorem step_apply (x0 : Vec Ideal S1x1008x2048 .fp8e4m3) (x1 : Vec Ideal S1x16x1008 .f32)
    (x2 : Vec Ideal S1x832x2048 .fp8e5m2) (x3 : Vec Ideal S1x16x832 .f32) (acc : Vec Ideal S832x1008 .f32)
    (o : Fin 832) (i : Fin 1008) :
    step x0 x1 x2 x3 acc (ix2 o i) = (show EReal from acc (ix2 o i)) + ∑ k : Fin 2048,
      ((show EReal from x2 (ix3 0 o k)) * (show EReal from x3 (ix3 0 ⟨k.val / 128, by omega⟩ o)))
        * ((show EReal from x0 (ix3 0 i k)) * (show EReal from x1 (ix3 0 ⟨k.val / 128, by omega⟩ i))) := by
  have e : step x0 x1 x2 x3 acc (ix2 o i) = (show EReal from acc (ix2 o i)) + ∑ k : Fin 2048,
      (show EReal from dyBlock x2 x3 (ix2 o k)) * (show EReal from xBlock x0 x1 (ix2 i k)) := by
    pointwise [step]
  rw [e]
  refine congrArg ((show EReal from acc (ix2 o i)) + ·) (Finset.sum_congr rfl fun k _ => ?_)
  rw [dyBlock_apply, xBlock_apply]

variable (m : (ℓ : Loc nD τ sig) → Buf (Elt Ideal) ℓ)

/-- What one token adds to an entry, on the program's arguments. -/
abbrev tok (c : Dev nD) (i : Fin 1008) (o : Fin 832) : Fin 32 → Fin 12288 → EReal :=
  Cert.Tokens.term (m ((c : Thread nD τ).loc main_arg0)) (m ((c : Thread nD τ).loc main_arg1))
    (m ((c : Thread nD τ).loc main_arg2)) (m ((c : Thread nD τ).loc main_arg3)) i o

/-- What point `t` adds to an entry: the addends of positions `2048 (t mod 6) …` of sequence `t / 6`. -/
def addend (c : Dev nD) (i : Fin 1008) (o : Fin 832) (t : Fin 192) : EReal :=
  ∑ k : Fin 2048, tok m c i o ⟨t.val / 6, by omega⟩ ⟨2048 * (t.val % 6) + k.val, by omega⟩

/-- The initial gradient at an entry. -/
abbrev init (c : Dev nD) (i : Fin 1008) (o : Fin 832) : EReal :=
  (m ((c : Thread nD τ).loc main_arg4) : Vec Ideal S1008x832 .f32) (ix2 i o)

/-- The update by the blocks of point `t` adds the point's addend. -/
theorem step_iblk (c : Dev nD) (t : Fin cfg0.N) (acc : Vec Ideal S832x1008 .f32) (i : Fin 1008) (o : Fin 832) :
    step (iblk m c 0 t) (iblk m c 1 t) (iblk m c 2 t) (iblk m c 3 t) acc (ix2 o i)
      = (show EReal from acc (ix2 o i)) + addend m c i o ⟨t.val, point_lt t⟩ := by
  rw [step_apply]
  refine congrArg ((show EReal from acc (ix2 o i)) + ·) (Finset.sum_congr rfl fun k _ => ?_)
  rw [iblk_x, iblk_xs, iblk_dy, iblk_dys]
  have hg : (⟨16 * (t.val % 6) + k.val / 128, by omega⟩ : Fin 96) = ⟨(2048 * (t.val % 6) + k.val) / 128, by omega⟩ :=
    Fin.ext (show 16 * (t.val % 6) + k.val / 128 = (2048 * (t.val % 6) + k.val) / 128 by omega)
  unfold tok Cert.Tokens.term
  rw [← hg]

/-- After point `n` the buffer holds the initial gradient plus the addends of points `0 … n`. -/
theorem outsAt_apply (c : Dev nD) (i : Fin 1008) (o : Fin 832) : ∀ (n : ℕ) (h : n < cfg0.N),
    (outsAt0 m c n h : Vec Ideal S832x1008 .f32) (ix2 o i) = init m c i o
      + ∑ t : Fin (n + 1), addend m c i o ⟨t.val, lt_of_lt_of_le t.isLt (lt_of_lt_of_eq h (show cfg0.N = 192 from N_0))⟩
  | 0, h => by
    rw [outsAt0_A m c ⟨0, h⟩ rfl, out_A, step_iblk, iblk_grad, Fin.sum_univ_one]
    rfl
  | n + 1, h => by
    have hN : n + 1 < 192 := lt_of_lt_of_eq h (show cfg0.N = 192 from N_0)
    have hB : ¬(⟨n + 1, h⟩ : Fin cfg0.N).val % 192 = 0 := by dsimp only; omega
    rw [outsAt0_B m c ⟨n + 1, h⟩ hB, out_B, step_iblk, Fin.sum_univ_castSucc, ← add_assoc]
    refine congrArg (· + addend m c i o ⟨n + 1, hN⟩) ?_
    exact outsAt_apply c i o n (Nat.lt_of_succ_lt h)

/-- After the last point the buffer holds the gradient, output channels first. -/
theorem outsAt_last (c : Dev nD) (h : 191 < cfg0.N) (o : Fin 832) (i : Fin 1008) :
    (outsAt0 m c 191 h : Vec Ideal S832x1008 .f32) (ix2 o i)
      = Cert.Tokens.grad (m ((c : Thread nD τ).loc main_arg0)) (m ((c : Thread nD τ).loc main_arg1))
          (m ((c : Thread nD τ).loc main_arg2)) (m ((c : Thread nD τ).loc main_arg3))
          (m ((c : Thread nD τ).loc main_arg4)) i o := by
  rw [outsAt_apply]
  unfold Cert.Tokens.grad
  rw [← Cert.Tokens.sum_blocks]
  rfl

end Cert.KernelIdeal.Hand

end
-- ==== Proof.KernelRun.lean ====
/-
  The kernel's run: the accumulator array ends at the gradient with output channels first, the program's result at its
  transpose, and the arguments are unchanged.
-/
module

public import proofs.«01_k».proof.Proof.KernelFold

@[expose] public section

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The last point. -/
def last : Fin cfg0.N := ⟨191, lt_of_lt_of_eq (by decide : 191 < 192) (show 192 = cfg0.N from N_0.symm)⟩

/-- The accumulator after the last point, as contents of the accumulator array. -/
def acc (c : Dev nD) : Buf (Elt Ideal) ((c : Thread nD τ).loc main_v3) := outsAt0 m c 191 last.isLt

/-- It is what the buffer holds after the point numbered 191. -/
theorem outsAt_acc (c : Dev nD) (n : ℕ) (e : n = 191) (h : n < cfg0.N) : outsAt0 m c n h = acc m c := by
  subst e
  rfl

/-- At every point the output's block is the whole array. -/
theorem index_out : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- The block is the whole array: what a write-back of contents `A` leaves out is nothing, and the block read from an array
    holding `A` is `A`. -/
theorem cut_eq (c : Dev nD) (t : Fin cfg0.N) (A : Buf (Elt Ideal) ((c : Thread nD τ).loc main_v3)) :
    (cfg0.win 5).cut (grid0.coords t) A = ((cfg0.win 5).blk t).view.read (Elt Ideal) A := by
  have hi := index_out t
  have hz' : (fun a => win0_5.index t a * main_v3.ty.shape.size a) = fun _ => 0 := funext fun a => by
    match a with
    | ⟨0, _⟩ => show win0_5.index t (0 : Fin 2) * 832 = 0; rw [hi.1]
    | ⟨1, _⟩ => show win0_5.index t (1 : Fin 2) * 1008 = 0; rw [hi.2]
  exact (Memref.read_access_unit_zero (Elt Ideal) main_v3 hz' (fun a => by rw [congrFun hz' a]; simp) A).symm

/-- The one write-back, at the last point, writes the accumulator. -/
theorem flushed_eq (c : Dev nD) (t : Fin cfg0.N) (hf : (cfg0.win 5).flush t = true) :
    (dats m 0 c).flushed 5 t = ((cfg0.win 5).blk t).view.read (Elt Ideal) (acc m c) := by
  have h : t.val = 191 := by have := (flush0_5 t).mp hf; have := point_lt t; omega
  have e : (dats m 0 c).after 5 t = acc m c := by
    rw [after0_5]
    exact outsAt_acc m c t.val h t.isLt
  exact (congrArg ((cfg0.win 5).cut (grid0.coords t)) e).trans (cut_eq c t (acc m c))

/-- So the accumulator array ends holding the accumulator after the last point. -/
theorem final (c : Dev nD) : (dats m 0 c).arrAt 5 cfg0.N = acc m c :=
  (dats m 0 c).arrAt_eq_of_cover 5 (acc m c) (flushed_eq m c) fun i =>
    ⟨last, (flush0_5 last).mpr rfl, by
      show i ∈ ((View.whole main_v3).slice (win0_5.rect last)).set
      rw [View.set_slice_whole, Rect.mem_set_unit]
      intro a
      have h0 : (i 0 : Nat) < 832 := (i 0).isLt
      have h1 : (i 1 : Nat) < 1008 := (i 1).isLt
      have hi := index_out last
      match a with
      | ⟨0, _⟩ => show win0_5.index last (0 : Fin 2) * 832 ≤ (i 0 : Nat) ∧ (i 0 : Nat) < win0_5.index last (0 : Fin 2) * 832 + 832
                  rw [hi.1]; omega
      | ⟨1, _⟩ => show win0_5.index last (1 : Fin 2) * 1008 ≤ (i 1 : Nat) ∧ (i 1 : Nat) < win0_5.index last (1 : Fin 2) * 1008 + 1008
                  rw [hi.2]; omega⟩

/-- The program's result: the accumulator after the last point, transposed. -/
abbrev result (c : Dev nD) : Buf (Elt Ideal) ((c : Thread nD τ).loc main_v4) :=
  transpose S1008x832 [1, 0] (acc m c : Vec Ideal S832x1008 .f32) transposes_S832x1008_S1008x832_1_0

/-- The host's transpose at an entry. -/
theorem transpose_acc (A : Vec Ideal S832x1008 .f32) (i : Fin 1008) (o : Fin 832) :
    transpose S1008x832 [1, 0] A transposes_S832x1008_S1008x832_1_0 (ix2 i o) = A (ix2 o i) := by
  pointwise

/-- The result at an entry is the gradient there. -/
theorem result_apply (c : Dev nD) (i : Fin 1008) (o : Fin 832) :
    (result m c : Vec Ideal S1008x832 .f32) (ix2 i o)
      = Cert.Tokens.grad (m ((c : Thread nD τ).loc main_arg0)) (m ((c : Thread nD τ).loc main_arg1))
          (m ((c : Thread nD τ).loc main_arg2)) (m ((c : Thread nD τ).loc main_arg3))
          (m ((c : Thread nD τ).loc main_arg4)) i o := by
  rw [← outsAt_last m c last.isLt o i]
  exact transpose_acc (acc m c) i o

/-- The host's transpose after the region reads the accumulator array. -/
theorem W_result (c : Dev nD) : Pipeline.afterTail₀ cfgs (dats m) 0 (V0 m) [hostOps1] c main_v4 = result m c := by
  unfold Pipeline.afterTail₀
  simp only [List.flatten_cons, List.flatten_nil, List.append_nil]
  after_results
  refine congrArg (fun a : Vec Ideal S832x1008 .f32 => transpose S1008x832 [1, 0] a transposes_S832x1008_S1008x832_1_0) ?_
  refine Eq.trans ?_ (final m c)
  exact Pipeline.withArrays_arr spec0 launch0.win.arr_inj c (V0 m c) (fun w => (dats m 0 c).arrAt w cfg0.N) 5

/-- The run, read: the result at the transposed accumulator, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).2 main_v4 (Pipeline.mem_restRefs_of main_v4 (by decide) (by decide))).trans (W_result m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.KernelIdeal.Hand

end
-- ==== Proof.RefValue.lean ====
/-
  What the reference computes: at entry `(i, o)` the initial gradient plus the sum over sequences, groups and positions of
  the group of the dequantised `x` times the dequantised `dy`, which is the gradient as a sum over tokens.
-/
module

public import proofs.«01_k».proof.Proof.Tokens
public import proofs.«01_k».proof.Proof.Gen.ReferenceIdeal.Value

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

/-- The reference's contraction: over sequence, group and position within the group. -/
abbrev D : DotDims S32x96x128x1008 S32x96x128x832 S1008x832 :=
  dot_S32x96x128x1008_S32x96x128x832_S1008x832_012_012_3_3_n_n

/-- The contraction index of a sequence, a group and a position. -/
def contrIdx (b : Fin 32) (n : Fin 96) (t : Fin 128) : D.contr.Idx := fun p =>
  match p with
  | ⟨0, _⟩ => b
  | ⟨1, _⟩ => n
  | ⟨2, _⟩ => t

/-- The contraction's indices are the triples of a sequence, a group and a position. -/
def contrEquiv : Fin 32 × Fin 96 × Fin 128 ≃ D.contr.Idx where
  toFun k := contrIdx k.1 k.2.1 k.2.2
  invFun kk := (kk ⟨0, (by decide : 0 < 3)⟩, kk ⟨1, (by decide : 1 < 3)⟩, kk ⟨2, (by decide : 2 < 3)⟩)
  left_inv _ := rfl
  right_inv kk := by
    funext p
    match p with
    | ⟨0, _⟩ => rfl
    | ⟨1, _⟩ => rfl
    | ⟨2, _⟩ => rfl

/-- A sum over the contraction is the triple sum. -/
theorem sum_contr (f : D.contr.Idx → EReal) :
    ∑ kk : D.contr.Idx, f kk = ∑ b : Fin 32, ∑ n : Fin 96, ∑ t : Fin 128, f (contrIdx b n t) := by
  rw [← Fintype.sum_equiv contrEquiv (fun k => f (contrIdx k.1 k.2.1 k.2.2)) f fun _ => rfl]
  simp only [Fintype.sum_prod_type]

/-- The left operand is read at the contraction index and channel `i`. -/
theorem lhsIdx_eq (i : Fin 1008) (o : Fin 832) (b : Fin 32) (n : Fin 96) (t : Fin 128) :
    D.lhsIdx (ix2 i o) (contrIdx b n t) = ix4 b n t i := by
  funext a
  match a with
  | ⟨0, _⟩ => rfl
  | ⟨1, _⟩ => rfl
  | ⟨2, _⟩ => rfl
  | ⟨3, _⟩ => rfl

/-- The right operand is read at the contraction index and channel `o`. -/
theorem rhsIdx_eq (i : Fin 1008) (o : Fin 832) (b : Fin 32) (n : Fin 96) (t : Fin 128) :
    D.rhsIdx (ix2 i o) (contrIdx b n t) = ix4 b n t o := by
  funext a
  match a with
  | ⟨0, _⟩ => rfl
  | ⟨1, _⟩ => rfl
  | ⟨2, _⟩ => rfl
  | ⟨3, _⟩ => rfl

/-- The dequantised `x`: the code at position `128 n + t` times the scale of group `n`. -/
def xDeq (a0 : Vec Ideal S32x12288x1008 .fp8e4m3) (a1 : Vec Ideal S32x96x1008 .f32) : FVec Ideal S32x96x128x1008 .bf16 :=
  mulf (extf .bf16 (shapeCast S32x96x128x1008 a0 shapeCasts_S32x12288x1008_S32x96x128x1008 : FVec Ideal S32x96x128x1008 .fp8e4m3) bitsLt_fp8e4m3_bf16)
    (broadcastTo S32x96x128x1008 (shapeCast S32x96x1x1008 (truncf .bf16 a1 bitsLt_bf16_f32 : FVec Ideal S32x96x1008 .bf16)
      shapeCasts_S32x96x1008_S32x96x1x1008) broadcasts_S32x96x1x1008_S32x96x128x1008)

/-- The dequantised `dy`, likewise. -/
def dyDeq (a2 : Vec Ideal S32x12288x832 .fp8e5m2) (a3 : Vec Ideal S32x96x832 .f32) : FVec Ideal S32x96x128x832 .bf16 :=
  mulf (extf .bf16 (shapeCast S32x96x128x832 a2 shapeCasts_S32x12288x832_S32x96x128x832 : FVec Ideal S32x96x128x832 .fp8e5m2) bitsLt_fp8e5m2_bf16)
    (broadcastTo S32x96x128x832 (shapeCast S32x96x1x832 (truncf .bf16 a3 bitsLt_bf16_f32 : FVec Ideal S32x96x832 .bf16)
      shapeCasts_S32x96x832_S32x96x1x832) broadcasts_S32x96x1x832_S32x96x128x832)

/-- The dequantised `x` at an index. -/
theorem xDeq_apply (a0 : Vec Ideal S32x12288x1008 .fp8e4m3) (a1 : Vec Ideal S32x96x1008 .f32) (b : Fin 32) (n : Fin 96)
    (t : Fin 128) (i : Fin 1008) : xDeq a0 a1 (ix4 b n t i)
      = (show EReal from a0 (ix3 b ⟨n.val * 128 + t.val, by omega⟩ i)) * (show EReal from a1 (ix3 b n i)) := by
  pointwise [xDeq]

/-- The dequantised `dy` at an index. -/
theorem dyDeq_apply (a2 : Vec Ideal S32x12288x832 .fp8e5m2) (a3 : Vec Ideal S32x96x832 .f32) (b : Fin 32) (n : Fin 96)
    (t : Fin 128) (o : Fin 832) : dyDeq a2 a3 (ix4 b n t o)
      = (show EReal from a2 (ix3 b ⟨n.val * 128 + t.val, by omega⟩ o)) * (show EReal from a3 (ix3 b n o)) := by
  pointwise [dyDeq]

/-- The reference's result at an entry is the gradient there. -/
theorem ref_apply (a0 : Vec Ideal S32x12288x1008 .fp8e4m3) (a1 : Vec Ideal S32x96x1008 .f32)
    (a2 : Vec Ideal S32x12288x832 .fp8e5m2) (a3 : Vec Ideal S32x96x832 .f32) (a4 : Vec Ideal S1008x832 .f32)
    (i : Fin 1008) (o : Fin 832) :
    k0_pay1 (F := Ideal) a0 a1 a2 a3 a4 (ix2 i o) = Cert.Tokens.grad a0 a1 a2 a3 a4 i o := by
  have e : k0_pay1 (F := Ideal) a0 a1 a2 a3 a4 (ix2 i o)
      = (show EReal from a4 (ix2 i o)) + Ideal.matmul D (xDeq a0 a1) (dyDeq a2 a3) (fun _ => 0) (ix2 i o) := by
    pointwise [k0_pay1]
    refine congrArg (fun z : S1008x832.Idx → EReal => (show EReal from a4 (ix2 i o)) + Ideal.matmul D (xDeq a0 a1) (dyDeq a2 a3) z (ix2 i o)) ?_
    funext j
    pointwise
  rw [e]
  unfold Cert.Tokens.grad Ideal.matmul
  rw [sum_contr, ← Cert.Tokens.sum_groups]
  refine congrArg ((show EReal from a4 (ix2 i o)) + ·) ?_
  rw [zero_add]
  refine Finset.sum_congr rfl fun b _ => Finset.sum_congr rfl fun n _ => Finset.sum_congr rfl fun t _ => ?_
  rw [lhsIdx_eq, rhsIdx_eq, xDeq_apply, dyDeq_apply, mul_comm]
  have hn : (⟨(n.val * 128 + t.val) / 128, by omega⟩ : Fin 96) = n :=
    Fin.ext (show (n.val * 128 + t.val) / 128 = n.val by omega)
  unfold Cert.Tokens.term
  rw [hn]

end Cert.ReferenceIdeal.Hand

end
-- ==== Proof.Equation.lean ====
/-
  The equation: on equal arguments the kernel's result is the reference's, entry by entry.
-/
module

public import proofs.«01_k».proof.Proof.KernelRun
public import proofs.«01_k».proof.Proof.RefValue

@[expose] public section

set_option maxRecDepth 16384

noncomputable section

namespace Cert.Equation

open Idealize.ShloMosaic Idealize.ShloMosaic.TcCoe Idealize.SL.Sem

/-- The kernel's result is the reference's payload on the kernel's arguments. -/
theorem result_eq (m : (ℓ : Loc Cert.KernelIdeal.nD Cert.KernelIdeal.τ Cert.KernelIdeal.sig) → Buf (Elt Ideal) ℓ)
    (c : Dev Cert.KernelIdeal.nD) :
    (Cert.KernelIdeal.Hand.result m c : Vec Ideal Cert.KernelIdeal.S1008x832 .f32)
      = Cert.ReferenceIdeal.Gen.k0_pay1 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4)) := by
  funext j
  obtain ⟨i, o, rfl⟩ : ∃ (i : Fin 1008) (o : Fin 832), j = ix2 i o := ⟨j 0, j 1, eq_ix2 j⟩
  exact (Cert.KernelIdeal.Hand.result_apply m c i o).trans (Cert.ReferenceIdeal.Hand.ref_apply _ _ _ _ _ i o).symm

end Cert.Equation

end
-- ==== Proof.lean ====
/-
  The certificate: the three programs leave their arguments unchanged and every semaphore counter at zero, the idealized
  kernel is the kernel's idealization, and over the extended reals it computes what the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The value claim: on equal arguments both programs end with the kernel's result, arguments unchanged. -/
theorem algebraic : Cert.algebraic_KernelIdeal_ReferenceIdeal (hKernelIdeal := Cert.KernelIdeal.Gen.facts)
    (hReferenceIdeal := Cert.ReferenceIdeal.Gen.facts) := fun m g m' g' _ heq =>
  ⟨fun c => Cert.KernelIdeal.Hand.result m c, Cert.KernelIdeal.Hand.run m g,
    (θ_run Cert.ReferenceIdeal.defs _ _).mono (fun r h c => ⟨(h c).1.trans (by
        obtain ⟨e0, e1, e2, e3, e4⟩ := heq c
        rw [e0, e1, e2, e3, e4]
        exact (Cert.Equation.result_eq m c).symm), (h c).2⟩)
      (Cert.ReferenceIdeal.Value.run m' g')⟩

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
